-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S28x256x48x176 : Shape := ⟨4, ![28, 256, 48, 176]⟩
abbrev S8x5x3 : Shape := ⟨3, ![8, 5, 3]⟩
abbrev S40 : Shape := ⟨1, ![40]⟩
abbrev S8x5 : Shape := ⟨2, ![8, 5]⟩
abbrev S28x48x176x256 : Shape := ⟨4, ![28, 48, 176, 256]⟩
abbrev S40x3 : Shape := ⟨2, ![40, 3]⟩
abbrev S8x5x259x48x176 : Shape := ⟨5, ![8, 5, 259, 48, 176]⟩
abbrev S8x5x48x176x259 : Shape := ⟨5, ![8, 5, 48, 176, 259]⟩
abbrev S1x24x176x256 : Shape := ⟨4, ![1, 24, 176, 256]⟩
abbrev S1 : Shape := ⟨1, ![1]⟩
abbrev S1x1x259x24x176 : Shape := ⟨5, ![1, 1, 259, 24, 176]⟩
abbrev S24x256x176 : Shape := ⟨3, ![24, 256, 176]⟩
abbrev S_ : Shape := ⟨0, ![]⟩
abbrev S24x176x256 : Shape := ⟨3, ![24, 176, 256]⟩
abbrev S1x1x256x1x176 : Shape := ⟨5, ![1, 1, 256, 1, 176]⟩
abbrev S256x176 : Shape := ⟨2, ![256, 176]⟩
abbrev S1x256x176 : Shape := ⟨3, ![1, 256, 176]⟩
abbrev S256x24x176 : Shape := ⟨3, ![256, 24, 176]⟩
abbrev S1x1x256x24x176 : Shape := ⟨5, ![1, 1, 256, 24, 176]⟩
abbrev S1x3 : Shape := ⟨2, ![1, 3]⟩
abbrev S3 : Shape := ⟨1, ![3]⟩
abbrev S3x1x1 : Shape := ⟨3, ![3, 1, 1]⟩
abbrev S3x24x176 : Shape := ⟨3, ![3, 24, 176]⟩
abbrev S1x1x3x24x176 : Shape := ⟨5, ![1, 1, 3, 24, 176]⟩

abbrev nBuf : Space → Nat
  | .hbm => 7
  | .vmem => 6
  | .smem => 2
  | _ => 0

abbrev bufTy : (tb : Table) → Fin (tcTables nBuf tb) → BufTy
  | .hbm, ⟨0, _⟩ => ⟨S28x256x48x176, .f32⟩
  | .hbm, ⟨1, _⟩ => ⟨S8x5x3, .f32⟩
  | .hbm, ⟨2, _⟩ => ⟨S8x5, .i32⟩
  | .hbm, ⟨3, _⟩ => ⟨S28x48x176x256, .f32⟩
  | .hbm, ⟨4, _⟩ => ⟨S40x3, .f32⟩
  | .hbm, ⟨5, _⟩ => ⟨S8x5x259x48x176, .f32⟩
  | .hbm, ⟨6, _⟩ => ⟨S8x5x48x176x259, .f32⟩
  | .local _ .vmem, ⟨0, _⟩ => ⟨S1x24x176x256, .f32⟩
  | .local _ .vmem, ⟨1, _⟩ => ⟨S1x24x176x256, .f32⟩
  | .local _ .vmem, ⟨2, _⟩ => ⟨S40x3, .f32⟩
  | .local _ .vmem, ⟨3, _⟩ => ⟨S1x1x259x24x176, .f32⟩
  | .local _ .vmem, ⟨4, _⟩ => ⟨S1x1x259x24x176, .f32⟩
  | .local _ .vmem, ⟨5, _⟩ => ⟨S24x256x176, .f32⟩
  | .local _ .smem, ⟨0, _⟩ => ⟨S40, .i32⟩
  | .local _ .smem, ⟨1, _⟩ => ⟨S40, .i32⟩
  | _, _ => ⟨S28x256x48x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_1 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_c : Ref sig .tc := ⟨.smem, 0, rfl⟩
abbrev main_call0_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 40], ![false, false]⟩

abbrev pre0 : Pipeline.Prefetch sig := ⟨2, ![main_call0_c.idx, main_call0_c_0.idx], fun | 0 => main_call0_c.names | 1 => main_call0_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg1 : BitVec 32 := BitVec.ofNat 32 (i 1).val
  let v8 : Index := Scalar.indexCast arg1
  let c0 : Index := 0#32
  ![v8.toNat, 0]
def cc0_transform_0 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, arg0.toNat, c0_i32_11.toNat]

abbrev stage0_0 : Fin 2 → Memref sig .tc .vmem S1x24x176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x259x24x176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S28x256x48x176 : Shape := ⟨4, ![28, 256, 48, 176]⟩
abbrev S8x5x3 : Shape := ⟨3, ![8, 5, 3]⟩
abbrev S8x5 : Shape := ⟨2, ![8, 5]⟩
abbrev S5x256x48x176 : Shape := ⟨4, ![5, 256, 48, 176]⟩
abbrev S3x256x48x176 : Shape := ⟨4, ![3, 256, 48, 176]⟩
abbrev S_ : Shape := ⟨0, ![]⟩
abbrev S2x256x48x176 : Shape := ⟨4, ![2, 256, 48, 176]⟩
abbrev S4x256x48x176 : Shape := ⟨4, ![4, 256, 48, 176]⟩
abbrev S1x256x48x176 : Shape := ⟨4, ![1, 256, 48, 176]⟩
abbrev S1x5x256x48x176 : Shape := ⟨5, ![1, 5, 256, 48, 176]⟩
abbrev S8x5x256x48x176 : Shape := ⟨5, ![8, 5, 256, 48, 176]⟩
abbrev S8x5x3x1x1 : Shape := ⟨5, ![8, 5, 3, 1, 1]⟩
abbrev S8x5x3x48x176 : Shape := ⟨5, ![8, 5, 3, 48, 176]⟩
abbrev S8x5x259x48x176 : Shape := ⟨5, ![8, 5, 259, 48, 176]⟩
abbrev S8x5x48x176x259 : Shape := ⟨5, ![8, 5, 48, 176, 259]⟩

abbrev nBuf : Space → Nat
  | .hbm => 42
  | .vmem => 0
  | .smem => 0
  | _ => 0

abbrev bufTy : (tb : Table) → Fin (tcTables nBuf tb) → BufTy
  | .hbm, ⟨0, _⟩ => ⟨S28x256x48x176, .f32⟩
  | .hbm, ⟨1, _⟩ => ⟨S8x5x3, .f32⟩
  | .hbm, ⟨2, _⟩ => ⟨S8x5, .i32⟩
  | .hbm, ⟨3, _⟩ => ⟨S5x256x48x176, .f32⟩
  | .hbm, ⟨4, _⟩ => ⟨S3x256x48x176, .f32⟩
  | .hbm, ⟨5, _⟩ => ⟨S_, .f32⟩
  | .hbm, ⟨6, _⟩ => ⟨S2x256x48x176, .f32⟩
  | .hbm, ⟨7, _⟩ => ⟨S5x256x48x176, .f32⟩
  | .hbm, ⟨8, _⟩ => ⟨S4x256x48x176, .f32⟩
  | .hbm, ⟨9, _⟩ => ⟨S_, .f32⟩
  | .hbm, ⟨10, _⟩ => ⟨S1x256x48x176, .f32⟩
  | .hbm, ⟨11, _⟩ => ⟨S5x256x48x176, .f32⟩
  | .hbm, ⟨12, _⟩ => ⟨S2x256x48x176, .f32⟩
  | .hbm, ⟨13, _⟩ => ⟨S_, .f32⟩
  | .hbm, ⟨14, _⟩ => ⟨S3x256x48x176, .f32⟩
  | .hbm, ⟨15, _⟩ => ⟨S5x256x48x176, .f32⟩
  | .hbm, ⟨16, _⟩ => ⟨S5x256x48x176, .f32⟩
  | .hbm, ⟨17, _⟩ => ⟨S4x256x48x176, .f32⟩
  | .hbm, ⟨18, _⟩ => ⟨S_, .f32⟩
  | .hbm, ⟨19, _⟩ => ⟨S1x256x48x176, .f32⟩
  | .hbm, ⟨20, _⟩ => ⟨S5x256x48x176, .f32⟩
  | .hbm, ⟨21, _⟩ => ⟨S3x256x48x176, .f32⟩
  | .hbm, ⟨22, _⟩ => ⟨S_, .f32⟩
  | .hbm, ⟨23, _⟩ => ⟨S2x256x48x176, .f32⟩
  | .hbm, ⟨24, _⟩ => ⟨S5x256x48x176, .f32⟩
  | .hbm, ⟨25, _⟩ => ⟨S2x256x48x176, .f32⟩
  | .hbm, ⟨26, _⟩ => ⟨S_, .f32⟩
  | .hbm, ⟨27, _⟩ => ⟨S3x256x48x176, .f32⟩
  | .hbm, ⟨28, _⟩ => ⟨S5x256x48x176, .f32⟩
  | .hbm, ⟨29, _⟩ => ⟨S1x5x256x48x176, .f32⟩
  | .hbm, ⟨30, _⟩ => ⟨S1x5x256x48x176, .f32⟩
  | .hbm, ⟨31, _⟩ => ⟨S1x5x256x48x176, .f32⟩
  | .hbm, ⟨32, _⟩ => ⟨S1x5x256x48x176, .f32⟩
  | .hbm, ⟨33, _⟩ => ⟨S1x5x256x48x176, .f32⟩
  | .hbm, ⟨34, _⟩ => ⟨S1x5x256x48x176, .f32⟩
  | .hbm, ⟨35, _⟩ => ⟨S1x5x256x48x176, .f32⟩
  | .hbm, ⟨36, _⟩ => ⟨S1x5x256x48x176, .f32⟩
  | .hbm, ⟨37, _⟩ => ⟨S8x5x256x48x176, .f32⟩
  | .hbm, ⟨38, _⟩ => ⟨S8x5x3x1x1, .f32⟩
  | .hbm, ⟨39, _⟩ => ⟨S8x5x3x48x176, .f32⟩
  | .hbm, ⟨40, _⟩ => ⟨S8x5x259x48x176, .f32⟩
  | .hbm, ⟨41, _⟩ => ⟨S8x5x48x176x259, .f32⟩
  | _, _ => ⟨S28x256x48x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Carry.lean ====
module

public import proofs.«01_k».proof.Defs
public import proofs.«01_k».proof.Proof.Gen.Kernel
public import proofs.«01_k».proof.Proof.Gen.KernelIdeal

/-!
# The kernel and its idealisation are one program

No operation was rewritten, so at any float instance the two printed programs are equal; a run of one is a run of the
other.
-/

@[expose] public section

noncomputable section

namespace Cert.Carry

open Idealize.ShloMosaic Idealize.ShloMosaic.TcCoe Idealize.SL.Sem

variable {F : FTy → Type} [FloatOps F]

set_option maxRecDepth 65536

/-- The two tables of kernel bodies are equal. -/
theorem bodies_eq : @Cert.Kernel.defs₀ F _ _ = @Cert.KernelIdeal.defs₀ F _ _ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- The two tables of bodies, with the launches' own, are equal. -/
theorem defs_eq : @Cert.Kernel.defs F _ _ = @Cert.KernelIdeal.defs F _ _ := by
  unfold Cert.Kernel.defs Cert.KernelIdeal.defs
  rw [bodies_eq]
  rfl

/-- The two main functions are equal. -/
theorem main_eq : @Cert.Kernel.main F _ _ = @Cert.KernelIdeal.main F _ _ := rfl

/-- What holds of every run of the idealised text holds of every run of the kernel's. -/
theorem run_carry (m : (ℓ : Loc Kernel.nD Kernel.τ Kernel.sig) → Buf (Elt F) ℓ) (ρ : Dev Kernel.nD → PrngReg) (P)
    (h : θ_run (KernelIdeal.defs (F := F)) (onTc (τ := KernelIdeal.τ) (KernelIdeal.main (F := F))) ⟨m, fun _ => 0, ρ⟩ P) :
    θ_run (Kernel.defs (F := F)) (onTc (τ := Kernel.τ) (Kernel.main (F := F))) ⟨m, fun _ => 0, ρ⟩ P := by
  rw [defs_eq, main_eq]
  exact h

end Cert.Carry

end
-- ==== Proof.Spec.lean ====
module

public import proofs.«01_k».proof.Proof.Gen.KernelIdeal.Launch
public import Idealize.ShloMosaic.Lib.Pointwise

/-!
# What the kernel writes, as closed formulas

`blockVal` is one grid point's output block; `regionVal` is the whole array the kernel leaves in HBM.
-/

@[expose] public section

noncomputable section

namespace Cert.KernelIdeal.Hand

open Cert.KernelIdeal Cert.KernelIdeal.Gen
open Idealize.ShloMosaic Idealize.ShloMosaic.TcCoe

variable {F : FTy → Type} [FloatOps F]

/-- Whether slot `s` holds a camera: the flag table's word there is 1. -/
def valid (s : Fin 40) : Bool := lit1 s == 1#32

/-- The camera that slot `s` shows (for an empty slot, the one before it). -/
def cam (s : Fin 40) : Fin 28 := ⟨(lit0 s).toNat, by revert s; decide⟩

/-- The flag table holds only the words 1 and 0. -/
theorem lit1_eq (s : Fin 40) : lit1 s = if valid s then 1#32 else 0#32 := by revert s; decide

/-- One block of the output: 256 channels of the camera's block `x` (or zeros, for an empty slot), then the slot's
    three entries of `q` repeated over the block. -/
def blockVal (s : Fin 40) (x : Vec F S1x24x176x256 .f32) (q : Vec F S40x3 .f32) : Vec F S1x1x259x24x176 .f32 := fun y =>
  if h : (y 2).val < 256 then
    if valid s then x (ix4 0 (y 3) (y 4) ⟨(y 2).val, h⟩) else Scalar.ofBits .f32 0x00000000#32
  else q (ix2 s ⟨(y 2).val - 256, by have : (y 2).val < 259 := (y 2).isLt; omega⟩)

/-- The slot at position `b` of group `a`: slots are numbered five to a group. -/
def slot (a : Fin 8) (b : Fin 5) : Fin 40 := ⟨5 * a.val + b.val, by omega⟩

/-- The whole array that the kernel writes, from the cameras with channels last (`x`) and the slots' entries (`q`). -/
def regionVal (x : Vec F S28x48x176x256 .f32) (q : Vec F S40x3 .f32) : Vec F S8x5x259x48x176 .f32 := fun y =>
  if h : (y 2).val < 256 then
    if valid (slot (y 0) (y 1)) then x (ix4 (cam (slot (y 0) (y 1))) (y 3) (y 4) ⟨(y 2).val, h⟩) else Scalar.ofBits .f32 0x00000000#32
  else q (ix2 (slot (y 0) (y 1)) ⟨(y 2).val - 256, by have : (y 2).val < 259 := (y 2).isLt; omega⟩)

end Cert.KernelIdeal.Hand

end
-- ==== Proof.BodyRun.lean ====
module

public import proofs.«01_k».proof.Proof.Spec
public import proofs.«01_k».proof.Proof.Gen.KernelIdeal.Skeleton
public import Idealize.ShloMosaic.Lib.Pipeline.FrameSuffix
public import Idealize.ShloMosaic.Lib.Batch
public import Idealize.ShloMosaic.Lib.Tactic
public import Idealize.ShloMosaic.Lib.WordCmp

/-!
# The kernel's body, run once

The body reads its slot's flag. On 1 it transposes the camera's block into its scratch and copies the scratch's 24 rows
into the output block by 24 transfers on one semaphore; on 0 it stores zeros there. Then it stores the slot's entries.
The two theorems state what the output block's buffer holds afterwards, as the writes made.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The resources of the proof: the pipeline's beside the counters of the body's own transfers. -/
local notation "𝕄" => MT nD τ sig Unit (Elt F) ℕ (Pipeline.UD sig nD τ) ℕ

/-- The word of the flag table that the body reads at the point with coordinates `i`. -/
abbrev flagWord (c : Dev nD) (i : grid0.Coords) (arg3 : Memref sig .tc .smem S40 .i32)
    (ft : Buf (Elt F) (arg3.view.loc (c : Thread nD τ))) : BitVec 32 :=
  (arg3.access (Rect.unit (s := S40) (k0_off1 i) S1.size (k0_off1_inb i))).read (Elt F) ft
    (Shape.Idx.first (numel1_S1.symm ▸ Nat.one_pos))

theorem outRow_inb (h : Fin 24) : ∀ a, ![0, 0, 0, h.val, 0] a + S1x1x256x1x176.size a ≤ S1x1x259x24x176.size a := by
  revert h; decide

theorem srcRow_inb (h : Fin 24) : ∀ a, ![h.val, 0, 0] a + S1x256x176.size a ≤ S24x256x176.size a := by
  revert h; decide

/-- Row `h` of the output block, its first 256 channels. -/
def outRow (arg6 : Memref sig .tc .vmem S1x1x259x24x176 .f32) (h : Fin 24) : Memref sig .tc .vmem S256x176 .f32 :=
  (arg6.slice (Rect.unit (s := S1x1x259x24x176) ![0, 0, 0, h.val, 0] S1x1x256x1x176.size (outRow_inb h)) (fun _ => rfl)).squeeze
    S256x176 squeezes_S1x1x256x1x176_S256x176

/-- Row `h` of the scratch. -/
def srcRow (arg7 : Memref sig .tc .vmem S24x256x176 .f32) (h : Fin 24) : Memref sig .tc .vmem S256x176 .f32 :=
  (arg7.slice (Rect.unit (s := S24x256x176) ![h.val, 0, 0] S1x256x176.size (srcRow_inb h)) (fun _ => rfl)).squeeze
    S256x176 squeezes_S1x256x176_S256x176

/-- The scratch with the transposed camera block stored in it. -/
def scratchAfter (c : Dev nD) (arg4 : Memref sig .tc .vmem S1x24x176x256 .f32) (arg7 : Memref sig .tc .vmem S24x256x176 .f32)
    (f4 : Buf (Elt F) (arg4.view.loc (c : Thread nD τ))) (f7 : Buf (Elt F) (arg7.view.loc (c : Thread nD τ))) :
    Buf (Elt F) (arg7.view.loc (c : Thread nD τ)) :=
  arg7.view.writes (Elt F) f7
    [⟨Rect.unit (s := S24x256x176) ![0, 0, 0] S24x256x176.size inb_S24x256x176_S24x256x176_0_0_0,
      k0_pay3 (View.readAt (Elt F) arg4.view
        (Rect.unit (s := S1x24x176x256) ![0, 0, 0, 0] S1x24x176x256.size inb_S1x24x176x256_S1x24x176x256_0_0_0_0).toLoadRect f4)⟩]

/-- The output block with its rows below `n` overwritten by the scratch's. -/
def rowsCopied (c : Dev nD) (arg6 : Memref sig .tc .vmem S1x1x259x24x176 .f32) (arg7 : Memref sig .tc .vmem S24x256x176 .f32)
    (f6 : Buf (Elt F) (arg6.view.loc (c : Thread nD τ))) (g : Buf (Elt F) (arg7.view.loc (c : Thread nD τ))) :
    (n : ℕ) → n ≤ 24 → Buf (Elt F) (arg6.view.loc (c : Thread nD τ))
  | 0, _ => f6
  | n + 1, hn => View.write (Elt F) (outRow arg6 ⟨n, hn⟩).view (rowsCopied c arg6 arg7 f6 g n (Nat.le_of_succ_le hn))
      (ReadAs.same.apply ((srcRow arg7 ⟨n, hn⟩).view.read (Elt F) g)) Finset.univ

/-- The store of the slot's entries: `k0_pay2` of the row that the body loads, over channels 256 to 258. -/
abbrev entPiece (c : Dev nD) (i : grid0.Coords) (arg5 : Memref sig .tc .vmem S40x3 .f32)
    (f5 : Buf (Elt F) (arg5.view.loc (c : Thread nD τ))) : View.Piece (Elt F) S1x1x259x24x176 .f32 :=
  ⟨Rect.unit (s := S1x1x259x24x176) ![0, 0, 256, 0, 0] S1x1x3x24x176.size inb_S1x1x259x24x176_S1x1x3x24x176_0_0_256_0_0,
    k0_pay2 (View.readAt (Elt F) arg5.view (Rect.unit (s := S40x3) (k0_off2 i) S1x3.size (k0_off2_inb i)).toLoadRect f5)⟩

/-- The store of zeros over the first 256 channels. -/
abbrev zeroPiece : View.Piece (Elt F) S1x1x259x24x176 .f32 :=
  ⟨Rect.unit (s := S1x1x259x24x176) ![0, 0, 0, 0, 0] S1x1x256x24x176.size inb_S1x1x259x24x176_S1x1x256x24x176_0_0_0_0_0, k0_pay1⟩

/-- The body on flag 0: the output block is left at zeros and the slot's entries, all else as it was. -/
theorem run_empty (c : Dev nD) (i : grid0.Coords)
    (arg2 : Memref sig .tc .smem S40 .i32) (harg2 : arg2.IsWhole) (arg3 : Memref sig .tc .smem S40 .i32) (harg3 : arg3.IsWhole)
    (arg4 : Memref sig .tc .vmem S1x24x176x256 .f32) (harg4 : arg4.IsWhole)
    (arg5 : Memref sig .tc .vmem S40x3 .f32) (harg5 : arg5.IsWhole)
    (arg6 : Memref sig .tc .vmem S1x1x259x24x176 .f32) (harg6 : arg6.IsWhole)
    (arg7 : Memref sig .tc .vmem S24x256x176 .f32) (harg7 : arg7.IsWhole)
    (ft : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hv : (0#32 : BitVec 32) = flagWord c i arg3 ft) (W : Waits sig Unit) (K : PUnit → sProp 𝕄) :
    iprop((arg3.view.loc (c : Thread nD τ) ↦{fullShare.right} ft)
      ∗ (arg4.view.loc (c : Thread nD τ) ↦[arg4.view.set]{fullShare} f4)
      ∗ (arg5.view.loc (c : Thread nD τ) ↦[arg5.view.set]{fullShare} f5)
      ∗ (arg6.view.loc (c : Thread nD τ) ↦{fullShare} f6)
      ∗ (arg7.view.loc (c : Thread nD τ) ↦{fullShare} f7)
      ∗ semVal ((c : Thread nD τ), SemLoc.dma 5) 0
      ∗ owes (c : Thread nD τ) 0 W
      ∗ (iprop((arg3.view.loc (c : Thread nD τ) ↦{fullShare.right} ft)
          ∗ (arg4.view.loc (c : Thread nD τ) ↦[arg4.view.set]{fullShare} f4)
          ∗ (arg5.view.loc (c : Thread nD τ) ↦[arg5.view.set]{fullShare} f5)
          ∗ (arg6.view.loc (c : Thread nD τ) ↦{fullShare} arg6.view.writes (Elt F) f6 [entPiece c i arg5 f5, zeroPiece])
          ∗ (∃ f, arg7.view.loc (c : Thread nD τ) ↦{fullShare} f)
          ∗ semVal ((c : Thread nD τ), SemLoc.dma 5) 0
          ∗ (∃ W', owes (c : Thread nD τ) 0 W')) -∗ K ⟨⟩))
    ⊢ wp frame (wpE (defs₀ (F := F)) Variants.none c none) Set.univ
        (cc0__regroup_kernel i arg2 harg2 arg3 harg3 arg4 harg4 arg5 harg5 arg6 harg6
          arg7 harg7 cc0_scratch1) K := by
  simp only [cc0__regroup_kernel_eq_skeleton]; unfold cc0__regroup_kernel_skel
  iintro ⟨Ht, H4, H5, H6, H7, Hq, HW, HK⟩
  set_option sl_exec.maxSteps 1 in sl_exec
  unfold smemLoad
  named_smem Ht (0#32 : BitVec 32) hv
  sl_exec
  sl_step
  iapply HK
  isplitl [Ht]; · iexact Ht
  isplitl [H4]; · iexact H4
  isplitl [H5]; · iexact H5
  isplitl [H6]; · iexact H6
  isplitl [H7]; · iexists _; iexact H7
  isplitl [Hq]; · iexact Hq
  iexists _; iexact HW

set_option sl_exec.stepHeartbeats 2000000 in
set_option sl_exec.rejoinHeartbeats 2000000 in
set_option sl_exec.rejoinFuel 64 in
set_option maxHeartbeats 2000000 in
/-- The body on flag 1: the output block is left at the scratch's rows and the slot's entries, the inputs as they were. -/
theorem run_valid (c : Dev nD) (i : grid0.Coords)
    (arg2 : Memref sig .tc .smem S40 .i32) (harg2 : arg2.IsWhole) (arg3 : Memref sig .tc .smem S40 .i32) (harg3 : arg3.IsWhole)
    (arg4 : Memref sig .tc .vmem S1x24x176x256 .f32) (harg4 : arg4.IsWhole)
    (arg5 : Memref sig .tc .vmem S40x3 .f32) (harg5 : arg5.IsWhole)
    (arg6 : Memref sig .tc .vmem S1x1x259x24x176 .f32) (harg6 : arg6.IsWhole)
    (arg7 : Memref sig .tc .vmem S24x256x176 .f32) (harg7 : arg7.IsWhole)
    (ft : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hv : (1#32 : BitVec 32) = flagWord c i arg3 ft) (W : Waits sig Unit) (K : PUnit → sProp 𝕄) :
    iprop((arg3.view.loc (c : Thread nD τ) ↦{fullShare.right} ft)
      ∗ (arg4.view.loc (c : Thread nD τ) ↦[arg4.view.set]{fullShare} f4)
      ∗ (arg5.view.loc (c : Thread nD τ) ↦[arg5.view.set]{fullShare} f5)
      ∗ (arg6.view.loc (c : Thread nD τ) ↦{fullShare} f6)
      ∗ (arg7.view.loc (c : Thread nD τ) ↦{fullShare} f7)
      ∗ semVal ((c : Thread nD τ), SemLoc.dma 5) 0
      ∗ owes (c : Thread nD τ) 0 W
      ∗ (iprop((arg3.view.loc (c : Thread nD τ) ↦{fullShare.right} ft)
          ∗ (arg4.view.loc (c : Thread nD τ) ↦[arg4.view.set]{fullShare} f4)
          ∗ (arg5.view.loc (c : Thread nD τ) ↦[arg5.view.set]{fullShare} f5)
          ∗ (arg6.view.loc (c : Thread nD τ) ↦{fullShare} arg6.view.writes (Elt F)
              (rowsCopied c arg6 arg7 f6 (scratchAfter c arg4 arg7 f4 f7) 24 le_rfl) [entPiece c i arg5 f5])
          ∗ (∃ f, arg7.view.loc (c : Thread nD τ) ↦{fullShare} f)
          ∗ semVal ((c : Thread nD τ), SemLoc.dma 5) 0
          ∗ (∃ W', owes (c : Thread nD τ) 0 W')) -∗ K ⟨⟩))
    ⊢ wp frame (wpE (defs₀ (F := F)) Variants.none c none) Set.univ
        (cc0__regroup_kernel i arg2 harg2 arg3 harg3 arg4 harg4 arg5 harg5 arg6 harg6
          arg7 harg7 cc0_scratch1) K := by
  have _plan : Transfers.BatchOf (c : Thread nD τ) (SemLoc.dma (sig := sig) 5) 24 (windows := true) := trivial
  simp only [cc0__regroup_kernel_eq_skeleton]; unfold cc0__regroup_kernel_skel
  iintro ⟨Ht, H4, H5, H6, H7, Hq, HW, HK⟩
  set_option sl_exec.maxSteps 1 in sl_exec
  unfold smemLoad
  named_smem Ht (1#32 : BitVec 32) hv
  sl_exec
  sl_step
  iapply HK
  isplitl [Ht]; · iexact Ht
  isplitl [H4]; · iexact H4
  isplitl [H5]; · iexact H5
  isplitl [H6]; · iexact H6
  isplitl [H7]; · iexists _; iexact H7
  isplitl [Hq]; · iexact Hq
  iexists _; iexact HW

end Cert.KernelIdeal.Hand

end
-- ==== Proof.Body.lean ====
module

public import proofs.«01_k».proof.Proof.BodyRun
public import Idealize.ShloMosaic.Lib.WritesUnit
public import Idealize.ShloMosaic.Lib.VecWindow
public import Idealize.ShloMosaic.Lib.Pointwise

/-!
# The kernel's body, by values

What the output block's buffer reads as after the writes of `BodyRun`: the closed formula `blockVal`. `body_run` is the
body's run stated with it, for both values of the flag.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The resources of the proof: the pipeline's beside the counters of the body's own transfers. -/
local notation "𝕄" => MT nD τ sig Unit (Elt F) ℕ (Pipeline.UD sig nD τ) ℕ

/-- Where row `h` of the output block lies in the block. -/
theorem outRow_emb (arg6 : Memref sig .tc .vmem S1x1x259x24x176 .f32) (h : Fin 24) (k : Fin 256) (w : Fin 176) :
    (outRow arg6 h).view.emb (ix2 k w) = arg6.view.emb (ix5 (0 : Fin 1) (0 : Fin 1) (⟨k.val, by omega⟩ : Fin 259) h w) := by
  have e : (outRow arg6 h).view.emb (ix2 k w)
      = arg6.view.emb ((Rect.unit (s := S1x1x259x24x176) ![0, 0, 0, h.val, 0] S1x1x256x1x176.size (outRow_inb h)).emb
          (Shape.reshapeEquiv squeezes_S1x1x256x1x176_S256x176.numel_eq (ix2 k w))) := rfl
  rw [e, show Shape.reshapeEquiv squeezes_S1x1x256x1x176_S256x176.numel_eq (ix2 k w)
    = ix5 (0 : Fin 1) (0 : Fin 1) k (0 : Fin 1) w from by pointwise]
  congr 1
  funext a
  apply Fin.ext
  rw [Rect.emb_apply]
  match a with
  | ⟨0, _⟩ => rfl
  | ⟨1, _⟩ => rfl
  | ⟨2, _⟩ => show 0 + 1 * k.val = k.val; omega
  | ⟨3, _⟩ => show h.val + 1 * 0 = h.val; omega
  | ⟨4, _⟩ => show 0 + 1 * w.val = w.val; omega

/-- Row `h` of the scratch reads the scratch at row `h`. -/
theorem srcRow_read (c : Dev nD) (arg7 : Memref sig .tc .vmem S24x256x176 .f32) (g : Buf (Elt F) (arg7.view.loc (c : Thread nD τ)))
    (h : Fin 24) (k : Fin 256) (w : Fin 176) :
    (srcRow arg7 h).view.read (Elt F) g (ix2 k w) = arg7.view.read (Elt F) g (ix3 h k w) := by
  have e : (srcRow arg7 h).view.read (Elt F) g (ix2 k w)
      = arg7.view.read (Elt F) g ((Rect.unit (s := S24x256x176) ![h.val, 0, 0] S1x256x176.size (srcRow_inb h)).emb
          (Shape.reshapeEquiv squeezes_S1x256x176_S256x176.numel_eq (ix2 k w))) := rfl
  rw [e, show Shape.reshapeEquiv squeezes_S1x256x176_S256x176.numel_eq (ix2 k w)
    = ix3 (0 : Fin 1) k w from by pointwise]
  congr 1
  funext a
  apply Fin.ext
  rw [Rect.emb_apply]
  match a with
  | ⟨0, _⟩ => show h.val + 1 * 0 = h.val; omega
  | ⟨1, _⟩ => show 0 + 1 * k.val = k.val; omega
  | ⟨2, _⟩ => show 0 + 1 * w.val = w.val; omega

/-- Each copied row of the output block reads as the scratch's row. -/
theorem rowsCopied_read (c : Dev nD) (arg6 : Memref sig .tc .vmem S1x1x259x24x176 .f32) (arg7 : Memref sig .tc .vmem S24x256x176 .f32)
    (f6 : Buf (Elt F) (arg6.view.loc (c : Thread nD τ))) (g : Buf (Elt F) (arg7.view.loc (c : Thread nD τ)))
    (k : Fin 256) (h : Fin 24) (w : Fin 176) (n : ℕ) (hn : n ≤ 24) (hh : h.val < n) :
    arg6.view.read (Elt F) (rowsCopied c arg6 arg7 f6 g n hn) (ix5 (0 : Fin 1) (0 : Fin 1) (⟨k.val, by omega⟩ : Fin 259) h w)
      = arg7.view.read (Elt F) g (ix3 h k w) := by
  induction n with
  | zero => omega
  | succ n ih =>
    by_cases e : h.val = n
    · have e' : h = ⟨n, hn⟩ := Fin.ext e
      subst e'
      rw [← srcRow_read c arg7 g _ k w]
      have := congrFun (View.read_write_univ (Val := Elt F) (v := (outRow arg6 ⟨n, hn⟩).view)
        (rowsCopied c arg6 arg7 f6 g n (Nat.le_of_succ_le hn))
        (ReadAs.same.apply ((srcRow arg7 ⟨n, hn⟩).view.read (Elt F) g))) (ix2 k w)
      rw [View.read_apply, outRow_emb] at this
      exact this
    · rw [← ih (Nat.le_of_succ_le hn) (by omega)]
      apply View.read_congr_at
      show View.write (Elt F) (outRow arg6 ⟨n, hn⟩).view _ _ _ _ = _
      apply View.write_of_not_mem
      intro hm
      obtain ⟨x, -, hx⟩ := Finset.mem_map.mp hm
      idx_vars x
      rw [outRow_emb] at hx
      have h3 := congrArg (fun i : S1x1x259x24x176.Idx => (i 3 : ℕ)) (arg6.view.emb.injective hx)
      exact e (show h.val = n from h3.symm)

/-- The slot's row of entries, as the body loads it. -/
theorem ent_row (c : Dev nD) (i : grid0.Coords) (s : Fin 40) (hs : (i 1).val = s.val) (arg5 : Memref sig .tc .vmem S40x3 .f32)
    (f5 : Buf (Elt F) (arg5.view.loc (c : Thread nD τ))) (k : Fin 3) :
    View.readAt (Elt F) arg5.view (Rect.unit (s := S40x3) (k0_off2 i) S1x3.size (k0_off2_inb i)).toLoadRect f5 (ix2 (0 : Fin 1) k)
      = arg5.view.read (Elt F) f5 (ix2 s k) := by
  show arg5.view.read (Elt F) f5 ((Rect.unit (s := S40x3) (k0_off2 i) S1x3.size (k0_off2_inb i)).emb (ix2 (0 : Fin 1) k)) = _
  congr 1
  funext a
  apply Fin.ext
  rw [Rect.emb_apply]
  have e := congrFun (k0_off2_eq i) a
  match a with
  | ⟨0, _⟩ => show k0_off2 i 0 + 1 * 0 = s.val; rw [← hs]; exact e
  | ⟨1, _⟩ => show k0_off2 i 1 + 1 * k.val = k.val; rw [show k0_off2 i 1 = 0 from e]; omega

/-- Channels 256 to 258 of the output block hold the slot's entries, whatever was written before. -/
theorem ent_read (c : Dev nD) (i : grid0.Coords) (s : Fin 40) (hs : (i 1).val = s.val) (arg5 : Memref sig .tc .vmem S40x3 .f32)
    (f5 : Buf (Elt F) (arg5.view.loc (c : Thread nD τ))) (arg6 : Memref sig .tc .vmem S1x1x259x24x176 .f32)
    (f : Buf (Elt F) (arg6.view.loc (c : Thread nD τ))) (L : List (View.Piece (Elt F) S1x1x259x24x176 .f32))
    (k : Fin 3) (h : Fin 24) (w : Fin 176) :
    arg6.view.read (Elt F) (arg6.view.writes (Elt F) f (entPiece c i arg5 f5 :: L))
        (ix5 (0 : Fin 1) (0 : Fin 1) (⟨256 + k.val, by omega⟩ : Fin 259) h w)
      = arg5.view.read (Elt F) f5 (ix2 s k) := by
  unfold entPiece
  refine (View.read_writes_cons_unit_of_mem (off' := ![0, 0, 256, 0, 0]) arg6.view f _ _ L _
    (ix5 (0 : Fin 1) (0 : Fin 1) k h w) rfl (fun a => by
      match a with
      | ⟨0, _⟩ => rfl
      | ⟨1, _⟩ => rfl
      | ⟨2, _⟩ => rfl
      | ⟨3, _⟩ => exact (Nat.zero_add _).symm
      | ⟨4, _⟩ => exact (Nat.zero_add _).symm)).trans ?_
  rw [← ent_row c i s hs arg5 f5 k]
  pointwise [k0_pay2]

/-- The store of the slot's entries leaves the first 256 channels. -/
theorem ent_miss (c : Dev nD) (i : grid0.Coords) (arg5 : Memref sig .tc .vmem S40x3 .f32)
    (f5 : Buf (Elt F) (arg5.view.loc (c : Thread nD τ))) (arg6 : Memref sig .tc .vmem S1x1x259x24x176 .f32)
    (f : Buf (Elt F) (arg6.view.loc (c : Thread nD τ))) (L : List (View.Piece (Elt F) S1x1x259x24x176 .f32))
    (k : Fin 256) (h : Fin 24) (w : Fin 176) :
    arg6.view.read (Elt F) (arg6.view.writes (Elt F) f (entPiece c i arg5 f5 :: L))
        (ix5 (0 : Fin 1) (0 : Fin 1) (⟨k.val, by omega⟩ : Fin 259) h w)
      = arg6.view.read (Elt F) (arg6.view.writes (Elt F) f L)
        (ix5 (0 : Fin 1) (0 : Fin 1) (⟨k.val, by omega⟩ : Fin 259) h w) := by
  unfold entPiece
  exact View.read_writes_cons_unit_of_not_mem (off' := ![0, 0, 256, 0, 0]) arg6.view f _ _ L _ rfl 2 (Or.inl k.isLt)

/-- The store of zeros, read on the first 256 channels. -/
theorem zero_read (c : Dev nD) (arg6 : Memref sig .tc .vmem S1x1x259x24x176 .f32)
    (f : Buf (Elt F) (arg6.view.loc (c : Thread nD τ))) (k : Fin 256) (h : Fin 24) (w : Fin 176) :
    arg6.view.read (Elt F) (arg6.view.writes (Elt F) f [zeroPiece])
        (ix5 (0 : Fin 1) (0 : Fin 1) (⟨k.val, by omega⟩ : Fin 259) h w)
      = Scalar.ofBits .f32 0x00000000#32 := by
  unfold zeroPiece
  refine (View.read_writes_cons_unit_of_mem (off' := ![0, 0, 0, 0, 0]) arg6.view f _ _ [] _
    (ix5 (0 : Fin 1) (0 : Fin 1) k h w) rfl (fun a => by
      match a with
      | ⟨0, _⟩ => rfl
      | ⟨1, _⟩ => rfl
      | ⟨2, _⟩ => exact (Nat.zero_add _).symm
      | ⟨3, _⟩ => exact (Nat.zero_add _).symm
      | ⟨4, _⟩ => exact (Nat.zero_add _).symm)).trans ?_
  pointwise [k0_pay1]

/-- The scratch holds the camera block with its last two axes exchanged. -/
theorem scratch_read (c : Dev nD) (arg4 : Memref sig .tc .vmem S1x24x176x256 .f32) (arg7 : Memref sig .tc .vmem S24x256x176 .f32)
    (f4 : Buf (Elt F) (arg4.view.loc (c : Thread nD τ))) (f7 : Buf (Elt F) (arg7.view.loc (c : Thread nD τ)))
    (k : Fin 256) (h : Fin 24) (w : Fin 176) :
    arg7.view.read (Elt F) (scratchAfter c arg4 arg7 f4 f7) (ix3 h k w)
      = arg4.view.read (Elt F) f4 (ix4 (0 : Fin 1) h w k) := by
  unfold scratchAfter
  rw [View.readAt_full, View.read_writes_full]
  pointwise [k0_pay3]

/-- A block of the output shape is `blockVal` once its first 256 channels and its last three are. -/
theorem eq_blockVal (s : Fin 40) (x : Vec F S1x24x176x256 .f32) (q : Vec F S40x3 .f32) (z : Vec F S1x1x259x24x176 .f32)
    (h1 : ∀ (k : Fin 256) (h : Fin 24) (w : Fin 176), z (ix5 (0 : Fin 1) (0 : Fin 1) (⟨k.val, by omega⟩ : Fin 259) h w)
      = if valid s then x (ix4 (0 : Fin 1) h w k) else Scalar.ofBits .f32 0x00000000#32)
    (h2 : ∀ (k : Fin 3) (h : Fin 24) (w : Fin 176), z (ix5 (0 : Fin 1) (0 : Fin 1) (⟨256 + k.val, by omega⟩ : Fin 259) h w)
      = q (ix2 s k)) : z = blockVal s x q := by
  funext y
  idx_vars y
  obtain rfl : y0 = 0 := Subsingleton.elim _ _
  obtain rfl : y1 = 0 := Subsingleton.elim _ _
  by_cases hy : y2.val < 256
  · refine (h1 ⟨y2.val, hy⟩ y3 y4).trans ?_
    unfold blockVal
    rw [dif_pos (show (ix5 (0 : Fin 1) (0 : Fin 1) y2 y3 y4 2).val < 256 from hy)]
    rfl
  · have e : y2 = ⟨256 + (y2.val - 256), by omega⟩ := Fin.ext (by show y2.val = 256 + (y2.val - 256); omega)
    unfold blockVal
    refine Eq.trans ?_ (dif_neg (show ¬ y2.val < 256 from hy)).symm
    refine Eq.trans ?_ (h2 ⟨y2.val - 256, by omega⟩ y3 y4)
    exact congrArg z (congrArg (fun t => ix5 (0 : Fin 1) (0 : Fin 1) t y3 y4) e)

/-- What the output block reads as after the body's run on flag 1. -/
theorem valid_value (c : Dev nD) (i : grid0.Coords) (s : Fin 40) (hs : (i 1).val = s.val) (hv : valid s = true)
    (arg4 : Memref sig .tc .vmem S1x24x176x256 .f32) (arg5 : Memref sig .tc .vmem S40x3 .f32)
    (arg6 : Memref sig .tc .vmem S1x1x259x24x176 .f32) (arg7 : Memref sig .tc .vmem S24x256x176 .f32)
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) :
    arg6.view.read (Elt F) (arg6.view.writes (Elt F)
        (rowsCopied c arg6 arg7 f6 (scratchAfter c arg4 arg7 f4 f7) 24 le_rfl) [entPiece c i arg5 f5])
      = blockVal s (arg4.view.read (Elt F) f4) (arg5.view.read (Elt F) f5) := by
  refine eq_blockVal s _ _ _ (fun k h w => ?_) fun k h w => ent_read c i s hs arg5 f5 arg6 _ _ k h w
  rw [ent_miss, if_pos hv]
  exact (rowsCopied_read c arg6 arg7 f6 _ k h w 24 le_rfl h.isLt).trans (scratch_read c arg4 arg7 f4 f7 k h w)

/-- What the output block reads as after the body's run on flag 0. -/
theorem empty_value (c : Dev nD) (i : grid0.Coords) (s : Fin 40) (hs : (i 1).val = s.val) (hv : valid s = false)
    (x : Vec F S1x24x176x256 .f32) (arg5 : Memref sig .tc .vmem S40x3 .f32) (arg6 : Memref sig .tc .vmem S1x1x259x24x176 .f32)
    (f5 : Buf (Elt F) (arg5.view.loc (c : Thread nD τ))) (f6 : Buf (Elt F) (arg6.view.loc (c : Thread nD τ))) :
    arg6.view.read (Elt F) (arg6.view.writes (Elt F) f6 [entPiece c i arg5 f5, zeroPiece])
      = blockVal s x (arg5.view.read (Elt F) f5) := by
  refine eq_blockVal s _ _ _ (fun k h w => ?_) fun k h w => ent_read c i s hs arg5 f5 arg6 _ _ k h w
  rw [ent_miss, if_neg (by rw [hv]; decide)]
  exact zero_read c arg6 f6 k h w

/-- A whole buffer that reads as `d`, held in full: some contents of all its elements that read as `d`. -/
theorem owns_of_whole (c : Dev nD) {sp : Space} {S : Shape} {e : EltTy} (M : Memref sig .tc sp S e) (h : M.IsWhole)
    (d : S.Idx → Elt F e) :
    (owns (c : Thread nD τ) M fullShare d : sProp 𝕄)
      = iprop(∃ f, ⌜M.view.read (Elt F) f = d⌝ ∗ (M.view.loc (c : Thread nD τ) ↦{fullShare} f)) := by
  unfold owns
  rw [h.set_eq_univ]

/-- The body at one grid point, its flag read from the table as `lit1`: the output block becomes `blockVal`, all else but
    the scratch is left as it was. -/
theorem body_run (c : Dev nD) (i : grid0.Coords) (s : Fin 40) (hs : (i 1).val = s.val)
    (arg2 : Memref sig .tc .smem S40 .i32) (harg2 : arg2.IsWhole) (arg3 : Memref sig .tc .smem S40 .i32) (harg3 : arg3.IsWhole)
    (arg4 : Memref sig .tc .vmem S1x24x176x256 .f32) (harg4 : arg4.IsWhole)
    (arg5 : Memref sig .tc .vmem S40x3 .f32) (harg5 : arg5.IsWhole)
    (arg6 : Memref sig .tc .vmem S1x1x259x24x176 .f32) (harg6 : arg6.IsWhole)
    (arg7 : Memref sig .tc .vmem S24x256x176 .f32) (harg7 : arg7.IsWhole)
    (ft : Buf (Elt F) (arg3.view.loc (c : Thread nD τ)))
    (x : Vec F S1x24x176x256 .f32) (q : Vec F S40x3 .f32)
    (hw : flagWord c i arg3 ft = lit1 s)
    (W : Waits sig Unit) (K : PUnit → sProp 𝕄) :
    iprop((arg3.view.loc (c : Thread nD τ) ↦{fullShare.right} ft)
      ∗ owns (c : Thread nD τ) arg4 fullShare x
      ∗ owns (c : Thread nD τ) arg5 fullShare q
      ∗ (∃ d, owns (c : Thread nD τ) arg6 fullShare d)
      ∗ (∃ f, arg7.view.loc (c : Thread nD τ) ↦{fullShare} f)
      ∗ semVal ((c : Thread nD τ), SemLoc.dma 5) 0
      ∗ owes (c : Thread nD τ) 0 W
      ∗ (iprop((arg3.view.loc (c : Thread nD τ) ↦{fullShare.right} ft)
          ∗ owns (c : Thread nD τ) arg4 fullShare x
          ∗ owns (c : Thread nD τ) arg5 fullShare q
          ∗ owns (c : Thread nD τ) arg6 fullShare (blockVal s x q)
          ∗ (∃ f, arg7.view.loc (c : Thread nD τ) ↦{fullShare} f)
          ∗ semVal ((c : Thread nD τ), SemLoc.dma 5) 0
          ∗ (∃ W', owes (c : Thread nD τ) 0 W')) -∗ K ⟨⟩))
    ⊢ wp frame (wpE (defs₀ (F := F)) Variants.none c none) Set.univ
        (cc0__regroup_kernel i arg2 harg2 arg3 harg3 arg4 harg4 arg5 harg5 arg6 harg6
          arg7 harg7 cc0_scratch1) K := by
  simp only [owns_of_whole c arg6 harg6]
  unfold owns
  iintro ⟨Ht, ⟨%f4, %h4, H4⟩, ⟨%f5, %h5, H5⟩, ⟨%d6, %f6, -, H6⟩, ⟨%f7, H7⟩, Hq, HW, HK⟩
  subst h4 h5
  cases hv : valid s with
  | true =>
    iapply (run_valid c i arg2 harg2 arg3 harg3 arg4 harg4 arg5 harg5 arg6 harg6 arg7 harg7 ft f4 f5 f6 f7
      (by rw [hw, lit1_eq, hv]; rfl) W K)
    isplitl [Ht]; · iexact Ht
    isplitl [H4]; · iexact H4
    isplitl [H5]; · iexact H5
    isplitl [H6]; · iexact H6
    isplitl [H7]; · iexact H7
    isplitl [Hq]; · iexact Hq
    isplitl [HW]; · iexact HW
    iintro ⟨Ht, H4, H5, H6, H7, Hq, HW⟩
    iapply HK
    isplitl [Ht]; · iexact Ht
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact valid_value c i s hs hv arg4 arg5 arg6 arg7 f4 f5 f6 f7
    isplitl [H7]; · iexact H7
    isplitl [Hq]; · iexact Hq
    iexact HW
  | false =>
    iapply (run_empty c i arg2 harg2 arg3 harg3 arg4 harg4 arg5 harg5 arg6 harg6 arg7 harg7 ft f4 f5 f6 f7
      (by rw [hw, lit1_eq, hv]; rfl) W K)
    isplitl [Ht]; · iexact Ht
    isplitl [H4]; · iexact H4
    isplitl [H5]; · iexact H5
    isplitl [H6]; · iexact H6
    isplitl [H7]; · iexact H7
    isplitl [Hq]; · iexact Hq
    isplitl [HW]; · iexact HW
    iintro ⟨Ht, H4, H5, H6, H7, Hq, HW⟩
    iapply HK
    isplitl [Ht]; · iexact Ht
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact empty_value c i s hs hv _ arg5 arg6 f5 f6
    isplitl [H7]; · iexact H7
    isplitl [Hq]; · iexact Hq
    iexact HW

end Cert.KernelIdeal.Hand

end
-- ==== Proof.Frame.lean ====
module

public import proofs.«01_k».proof.Proof.Body
public import Idealize.ShloMosaic.Lib.Pipeline.FrameBody
public import Idealize.ShloMosaic.Lib.Pipeline.ValueKit

/-!
# The program's run

The launch's data (its tables, what each block holds, what the body keeps between grid points), the body's obligation
from `body_run`, and the run of the whole program: `run_main`.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

/-- The resources of the proof: the pipeline's beside the counters of the body's own transfers. -/
local notation "𝕄" => MT nD τ sig Unit (Elt F) ℕ (Pipeline.UD sig nD τ) ℕ

variable (m : (ℓ : Loc nD τ sig) → Buf (Elt F) ℓ) (ρ : Dev nD → PrngReg)

/-! ## The tables -/

/-- The two prefetched tables, which the host writes as constants before the launch. -/
def tbl : pre0.Contents (Elt F) := fun
  | ⟨0, _⟩ => fun i => lit0 (S40.rowMajor i)
  | ⟨1, _⟩ => fun i => lit1 (S40.rowMajor i)
  | ⟨_ + 2, h⟩ => absurd h (Nat.not_lt.2 (Nat.le_add_left _ _))

/-- The block of the camera window at each grid point: camera `cam s` of slot `s`, rows by halves. -/
theorem camIx (i : grid0.Coords) :
    cc0_transform_0 (F := F) k0_off1_inb numel1_S1 tbl i = ![(cam (i 1)).val, (i 0).val, 0, 0] :=
  show cc0_transform_0 (F := Bits) k0_off1_inb numel1_S1 tbl i = _ from by
    revert i; decide +kernel

/-- At these tables every block of the camera window lies inside its array. -/
theorem tbl_ok : ok0 (F := F) tbl := by
  intro i
  rw [camIx i]
  revert i; decide +kernel

/-- The tables as the launch takes them. -/
def adm : (p : Fin 1) → (pcfgs (F := F) p).Adm := fun _ => ⟨tbl, tbl_ok⟩

/-! ## The memory when the region starts -/

/-- The buffers' contents after the host operations before the launch. -/
def V₀ (c : Dev nD) : Valuation τ sig (Elt F) := StableHlo.after [hostOps0].flatten (fun b => m (c, b))

/-! ## The region's data -/

/-- The body's one semaphore of its own. -/
abbrev osem0 : Fin 1 → SemLoc sig := fun _ => SemLoc.dma 5

/-- That semaphore is none of the pipeline's. -/
theorem ownSemFacts0 : Pipeline.OwnSemFacts spec0 osem0 := by decide

/-- The cameras' block that grid point `t` reads. -/
def camBlock (c : Dev nD) (t : Fin grid0.N) : Vec F S1x24x176x256 .f32 :=
  (((win0 (F := F) (adm 0)) 0).blk t).view.read (Elt F) (V₀ m c (Proc.devRef .tc main_call0_v0))

/-- The slots' entries, which every grid point reads whole. -/
def entBlock (c : Dev nD) (t : Fin grid0.N) : Vec F S40x3 .f32 :=
  (((win0 (F := F) (adm 0)) 1).blk t).view.read (Elt F) (V₀ m c (Proc.devRef .tc main_call0_v1))

/-- The data of the region's proof: the inputs' blocks are left as found, the output's block is `blockVal`; between grid
    points the body holds its scratch, its semaphore at zero and its half of the tables. -/
def dats (p : Fin 1) (c : Dev nD) : Dat τ (Elt F) Unit ℕ (Pipeline.UD sig nD τ) ℕ (Pipeline.pin (pcfgs (F := F)) adm p) c where
  A w := V₀ m c (Proc.devRef .tc (Pipeline.arrRef spec0 w))
  after w t := match w with
    | ⟨0, _⟩ => camBlock m c t
    | ⟨1, _⟩ => entBlock m c t
    | ⟨2, _⟩ => blockVal (grid0.coords t 1) (camBlock m c t) (entBlock m c t)
    | ⟨_ + 3, h⟩ => absurd h (Nat.not_lt.2 (Nat.le_add_left _ _))
  Φ _ := iprop(Pipeline.ΦD osem0 spec0 ∅ (fun c b => V₀ m c (Proc.devRef .tc b)) c ∗ Pipeline.ΦT pre0 tbl c)
  q _ := fullShare
  owed _ := 0

/-- Each window's array holds what the host operations before the launch left there. -/
theorem A_eq (c : Dev nD) (w : Fin 3) : (dats m 0 c).A w = V₀ m c (Proc.devRef .tc (Pipeline.arrRef spec0 w)) := by
  dsimp only [dats]

/-! ## The body at one grid point -/

/-- The number of grid points. -/
abbrev N0 : ℕ := (Pipeline.pin (pcfgs (F := F)) adm 0).N

/-- The staging memrefs of grid point `t`. -/
abbrev ms0 (t : Fin (N0 (F := F))) (w : Fin 3) := ((win0 (F := F) (adm 0)) w).stage ((Pipeline.pin (pcfgs (F := F)) adm 0).slots t w)

/-- The tables held by the body, one by one. -/
theorem PhiT_eq (c : Dev nD) :
    (Pipeline.ΦT pre0 tbl c : sProp 𝕄)
      = iprop((((Memref.whole main_call0_c : Memref sig .tc .smem S40 .i32).view.loc (c : Thread nD τ)) ↦{fullShare.right} tbl 0)
          ∗ (((Memref.whole main_call0_c_0 : Memref sig .tc .smem S40 .i32).view.loc (c : Thread nD τ)) ↦{fullShare.right} tbl 1)) := by
  unfold Pipeline.ΦT Pipeline.prefHeld
  rw [show (Finset.univ : Finset (Fin 2)) = insert 0 {1} from by decide, bigSep_insert (by decide), bigSep_singleton]
  rfl

/-- What the body holds between grid points, one by one. -/
theorem PhiD_eq (c : Dev nD) (V : (c : Dev nD) → (b : Ref sig .tc) → Buf (Elt F) ((c : Thread nD τ).loc b)) :
    (Pipeline.ΦD osem0 spec0 ∅ V c : sProp 𝕄)
      = iprop((∃ f, (Memref.whole cc0_scratch0 : Memref sig .tc .vmem S24x256x176 .f32).view.loc (c : Thread nD τ) ↦{fullShare} f)
          ∗ (∃ r, prngReg c r) ∗ semVal ((c : Thread nD τ), SemLoc.dma 5) 0 ∗ emp) := by
  rw [Pipeline.ΦD_eq, scopedRest0_eq, Pipeline.ownSems0_eq_of_list c osem0 [0] (by decide) (by decide)]
  rfl

/-- The flag that the body reads at grid point `i` is the flag of its slot. -/
theorem flag_eq (c : Dev nD) (i : grid0.Coords) :
    flagWord (F := F) c i (Memref.whole main_call0_c_0) (tbl 1) = lit1 (i 1) :=
  show flagWord (F := Bits) c i (Memref.whole main_call0_c_0) (tbl 1) = lit1 (i 1) from by
    revert c i; decide +kernel

/-- The camera window's buffer holds its block when the body starts. -/
theorem before_cam (c : Dev nD) (t : Fin (N0 (F := F))) (d) : (dats m 0 c).before 0 t d = camBlock m c t :=
  (dats m 0 c).before_in_eq_fetched 0 rfl (fun _ => rfl) (fun _ _ _ => rfl) (fun _ => rfl) t d

/-- The entry window's buffer holds its block when the body starts. -/
theorem before_ent (c : Dev nD) (t : Fin (N0 (F := F))) (d) : (dats m 0 c).before 1 t d = entBlock m c t :=
  (dats m 0 c).before_in_eq_fetched 1 rfl (fun _ => rfl) (fun _ _ _ => rfl) (fun _ => rfl) t d

/-- The body's call at grid point `t`, on the staging buffers current there. -/
def bodyAt (t : Fin (N0 (F := F))) : Prog (TpuEff nD τ sig (Elt F) Λ₀ .tc) PUnit :=
  cc0__regroup_kernel (grid0.coords t) (Memref.whole main_call0_c) (Memref.isWhole_whole _) (Memref.whole main_call0_c_0)
    (Memref.isWhole_whole _) (ms0 t 0) (hstage0_0 (((Pipeline.pin (pcfgs (F := F)) adm 0).slots t 0).cast nbuf0_0))
    (ms0 t 1) (hstage0_1 (((Pipeline.pin (pcfgs (F := F)) adm 0).slots t 1).cast nbuf0_1))
    (ms0 t 2) (hstage0_2 (((Pipeline.pin (pcfgs (F := F)) adm 0).slots t 2).cast nbuf0_2))
    (Memref.whole cc0_scratch0) (Memref.isWhole_whole _) cc0_scratch1

/-- What the body finds at grid point `t`. -/
def bodyPre (c : Dev nD) (t : Fin (N0 (F := F))) : sProp 𝕄 :=
  iprop((dats m 0 c).Φ t.castSucc ∗ (dats m 0 c).owesAt () t.castSucc
    ∗ (∃ d, owns (c : Thread nD τ) (ms0 t 0) fullShare ((dats m 0 c).before 0 t d))
    ∗ (∃ d, owns (c : Thread nD τ) (ms0 t 1) fullShare ((dats m 0 c).before 1 t d))
    ∗ (∃ d, owns (c : Thread nD τ) (ms0 t 2) fullShare ((dats m 0 c).before 2 t d)))

/-- What the body leaves at grid point `t`. -/
def bodyPost (c : Dev nD) (t : Fin (N0 (F := F))) : sProp 𝕄 :=
  iprop((dats m 0 c).Φ t.succ ∗ (dats m 0 c).owesAt () t.succ
    ∗ owns (c : Thread nD τ) (ms0 t 0) fullShare ((dats m 0 c).after 0 t)
    ∗ owns (c : Thread nD τ) (ms0 t 1) fullShare ((dats m 0 c).after 1 t)
    ∗ owns (c : Thread nD τ) (ms0 t 2) fullShare ((dats m 0 c).after 2 t))

/-- The body at grid point `t` leaves its window's buffers as the region's data say. -/
theorem sound_body (c : Dev nD) (t : Fin (N0 (F := F))) :
    bodyPre m c t ⊢ wp frame (wpE (defs₀ (F := F)) Variants.none c none) Set.univ (bodyAt t) (fun _ => bodyPost m c t) := by
  unfold bodyPre bodyPost bodyAt
  simp only [before_cam, before_ent]
  rw [show (dats m 0 c).Φ t.succ = (dats m 0 c).Φ t.castSucc from rfl]
  rw [show (dats m 0 c).Φ t.castSucc = iprop(Pipeline.ΦD osem0 spec0 ∅ (fun c b => V₀ m c (Proc.devRef .tc b)) c ∗ Pipeline.ΦT pre0 tbl c) from rfl,
    PhiT_eq, PhiD_eq]
  unfold Dat.owesAt Pipeline.owesWithin
  rw [show (dats m 0 c).owed t.castSucc = 0 from rfl, show (dats m 0 c).owed t.succ = 0 from rfl]
  iintro ⟨⟨⟨H7, Hg, Hq, He⟩, Ht0, Ht1⟩, ⟨%W, -, HW⟩, ⟨%d0, H0⟩, ⟨%d1, H1⟩, ⟨%d2, H2⟩⟩
  iapply (body_run c (grid0.coords t) (grid0.coords t 1) rfl (Memref.whole main_call0_c) _ (Memref.whole main_call0_c_0) _
    (ms0 t 0) _ (ms0 t 1) _ (ms0 t 2) _ (Memref.whole cc0_scratch0) _ (tbl 1) (camBlock m c t) (entBlock m c t)
    (flag_eq c (grid0.coords t)) W _)
  isplitl [Ht1]; · iexact Ht1
  isplitl [H0]; · iexact H0
  isplitl [H1]; · iexact H1
  isplitl [H2]; · iexists _; iexact H2
  isplitl [H7]; · iexact H7
  isplitl [Hq]; · iexact Hq
  isplitl [HW]; · iexact HW
  iintro ⟨Ht1, H0, H1, H2, H7, Hq, ⟨%W', HW'⟩⟩
  isplitl [H7 Hg Hq He Ht0 Ht1]
  · isplitl [H7 Hg Hq He]
    · isplitl [H7]; · iexact H7
      isplitl [Hg]; · iexact Hg
      isplitl [Hq]; · iexact Hq
      iexact He
    isplitl [Ht0]; · iexact Ht0
    iexact Ht1
  isplitl [HW']
  · iexists W'; isplitr; · ipureintro; exact fun _ _ => Or.inl trivial
    iexact HW'
  isplitl [H0]; · iexact H0
  isplitl [H1]; · iexact H1
  iexact H2

/-- The table of bodies has the body's call at the pipeline's label. -/
theorem defs₀_row (t : Fin (N0 (F := F))) :
    defs₀ (F := F) .tc (Pipeline.pin (pcfgs (F := F)) adm 0).body
      ((Pipeline.pin (pcfgs (F := F)) adm 0).bodyArgs t ((Pipeline.pin (pcfgs (F := F)) adm 0).slots t)) = bodyAt t := by
  unfold defs₀; rw [Defs.onTc_tc]; rfl

/-- The body's obligation to the region, at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The tables' buffers hold the tables when the launch starts. -/
theorem tables_eq (c : Dev nD) (k : Fin 2) : V₀ m c (Proc.devRef .tc (pre0.ref k)) = tbl (F := F) k := by
  unfold V₀ hostOps0
  fin_cases k
  · after_results; rfl
  · after_results; rfl

/-- The host operation after the launch stays within the buffers it may touch. -/
theorem tail_sub : ∀ ops ∈ [hostOps1 (F := F)], ∀ op ∈ ops, op.bufs ⊆ Pipeline.tailRefsBut sig pre0 spec0 ∅ := by
  intro ops ho op h
  simp only [hostOps1, List.mem_singleton] at ho h
  subst ho
  simp only [List.mem_singleton] at h
  subst h
  show ({Proc.devRef .tc main_call0_v2, Proc.devRef .tc main_v0_0} : Finset (DevRef τ sig)) ⊆ _
  decide

/-- It allocates nothing. -/
theorem tail_fresh : ∀ ops ∈ [hostOps1 (F := F)], ∀ op ∈ ops, op.fresh = ∅ := by
  intro ops ho op h
  simp only [List.mem_singleton] at ho
  subst ho
  simp only [hostOps1, List.mem_singleton] at h
  subst h
  rfl

/-- It writes none of the region's arrays. -/
theorem tail_keep : ∀ ops ∈ [hostOps1 (F := F)], ∀ op ∈ ops, ∀ w : Fin 3, Proc.devRef .tc (Pipeline.arrRef spec0 w) ∉ op.writes := by
  intro ops ho op h
  simp only [List.mem_singleton] at ho
  subst ho
  simp only [hostOps1, List.mem_singleton] at h
  subst h
  show ∀ w : Fin 3, Proc.devRef .tc (Pipeline.arrRef spec0 w) ∉ ({Proc.devRef .tc main_v0_0} : Finset (DevRef τ sig))
  decide

set_option backward.isDefEq.respectTransparency.types false in
/-- The program's run: the region's arrays end as its data say, every other buffer as the host operations leave it. -/
theorem run_main : θ_run defs (onTc (τ := τ) (main (F := F))) (s₀ m ρ) (fun r =>
    Pipeline.FramePost (Pipeline.pin (pcfgs (F := F)) adm) (dats m) 0 (Pipeline.afterTail pcfgs adm (dats m) 0 (V₀ m) [hostOps1]) r
      ∧ r.2.sem = fun _ => 0) :=
  Pipeline.θ_run_frameP_dma_around (Q' := _) pcfgs adm (dats m) (0 : Fin 1) launch0 osem0 defs₀ Variants.none ownSemFacts0
    ∅ (Finset.empty_subset _) m ρ main
    (hbody := fun c => (body_obligation m c).loose) (hshare := fun c => (dats m 0 c).share_full fun _ => rfl)
    (howed := fun _ _ => rfl) (V₀ := V₀ m) (opss := [hostOps1]) (hsub := tail_sub) (hfresh := tail_fresh) (hkeep := tail_keep)
    (hmain := Pipeline.hmainP_around pcfgs 0 defs₀ Variants.none m main [hostOps0] [hostOps1]
      hostOps0_sub (by exact ⟨rfl, rfl, rfl, rfl, rfl⟩) fun c => (main_chain c).trans rfl)
    (hA := A_eq m) (hpf := tables_eq m)
    (hin := fun _ => .rfl) (hout := fun c => by
      rw [show (dats m 0 c).Φ (Fin.last (Pipeline.pin (pcfgs (F := F)) adm 0).N)
        = iprop(Pipeline.ΦD osem0 spec0 ∅ (fun c b => V₀ m c (Proc.devRef .tc b)) c ∗ Pipeline.ΦT pre0 tbl c) from rfl]
      iintro ⟨HD, -⟩; iexact HD)

end Cert.KernelIdeal.Hand

end
-- ==== Proof.Values.lean ====
module

public import proofs.«01_k».proof.Proof.Frame

/-!
# The kernel's results

The blocks of all grid points together are `regionVal` of the launch's inputs, so the first result is `resultVal` of the
program's arguments and the second is the constant mask. `run_values` is the program's run with both.
-/

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Idealize.SL.Sem

variable {F : FTy → Type} [FloatOps F] [∀ e, Nonempty (Elt F e)]
variable (m : (ℓ : Loc nD τ sig) → Buf (Elt F) ℓ) (ρ : Dev nD → PrngReg)

/-! ## Where each block lies -/

/-- Grid point `t` reads the block of its slot's camera, at its half of the rows. -/
theorem camIndex (t : Fin grid0.N) : ((win0 (F := F) (adm 0)) 0).index t = ![(cam (grid0.coords t 1)).val, (grid0.coords t 0).val, 0, 0] :=
  camIx (F := F) (grid0.coords t)

/-- Every grid point reads the one block of entries. -/
theorem entIndex (t : Fin grid0.N) : ((win0 (F := F) (adm 0)) 1).index t = ![0, 0] :=
  show ((win0 (F := Bits) (adm 0)) 1).index t = ![0, 0] from by revert t; decide +kernel

/-- Grid point `t` writes the block of its slot, by group and position, at its half of the rows. -/
theorem outIndex (t : Fin grid0.N) :
    ((win0 (F := F) (adm 0)) 2).index t = ![(grid0.coords t 1).val / 5, (grid0.coords t 1).val % 5, 0, (grid0.coords t 0).val, 0] :=
  show ((win0 (F := Bits) (adm 0)) 2).index t = _ from by revert t; decide +kernel

/-- Every element of the output lies in the block of some grid point. -/
theorem outCovers : ((win0 (F := F) (adm 0)) 2).Covers :=
  show ((win0 (F := Bits) (adm 0)) 2).Covers from by decide +kernel

/-- A block holds its part of the whole array, when it lies at slot `s` and its inputs are the parts of the whole inputs. -/
theorem blockVal_eq_regionVal (s : Fin 40) (x : Vec F S28x48x176x256 .f32) (q : Vec F S40x3 .f32)
    (xb : Vec F S1x24x176x256 .f32) (qb : Vec F S40x3 .f32) (y : S1x1x259x24x176.Idx) (e : S8x5x259x48x176.Idx)
    (h0 : (e 0).val = s.val / 5) (h1 : (e 1).val = s.val % 5) (h2 : (e 2).val = (y 2).val)
    (hx : ∀ k : Fin 256, xb (ix4 0 (y 3) (y 4) k) = x (ix4 (cam s) (e 3) (e 4) k))
    (hq : ∀ k : Fin 3, qb (ix2 s k) = q (ix2 s k)) : blockVal s xb qb y = regionVal x q e := by
  have hs : slot (e 0) (e 1) = s := Fin.ext (show 5 * (e 0).val + (e 1).val = s.val by omega)
  unfold blockVal regionVal
  rw [hs]
  by_cases h : (y 2).val < 256
  · rw [dif_pos h, dif_pos (h2.trans_lt h), hx]
    simp only [h2]
  · rw [dif_neg h, dif_neg (fun h' => h (h2.symm.trans_lt h')), hq]
    simp only [h2]

/-- The array the region writes, in closed form. -/
theorem arr_eq (c : Dev nD) :
    (dats m 0 c).arrAt 2 (N0 (F := F)) = regionVal (V₀ m c (Proc.devRef .tc main_call0_v0)) (V₀ m c (Proc.devRef .tc main_call0_v1)) := by
  refine (dats m 0 c).arrAt_eq_of_covers 2 _ outCovers fun t hf y => ?_
  blk_simp
  have cx (a : Fin 4) := congrFun (camIndex (F := F) t) a
  have ex (a : Fin 2) := congrFun (entIndex (F := F) t) a
  have ox (a : Fin 5) := congrFun (outIndex (F := F) t) a
  refine blockVal_eq_regionVal (grid0.coords t 1) _ _ (camBlock m c t) (entBlock m c t) y _ ?_ ?_ ?_ (fun k => ?_) (fun k => ?_)
  · blk_simp; exact ox 0
  · blk_simp; exact ox 1
  · blk_simp; exact (congrArg (· * 259 + (y (2 : Fin 5)).val) (ox 2)).trans (Nat.zero_add _)
  · unfold camBlock
    blk_simp
    refine congrArg (V₀ m c (Proc.devRef .tc main_call0_v0)) ?_
    blk_ext
    · exact cx 0
    · exact congrArg (· * 24 + (y (3 : Fin 5)).val) ((cx 1).trans (ox 3).symm)
    · exact congrArg (· * 176 + (y (4 : Fin 5)).val) ((cx 2).trans (ox 4).symm)
    · exact (congrArg (· * 256 + k.val) (cx 3)).trans (Nat.zero_add _)
  · unfold entBlock
    blk_simp
    refine congrArg (V₀ m c (Proc.devRef .tc main_call0_v1)) ?_
    blk_ext
    · exact (congrArg (· * 40 + (grid0.coords t 1).val) (ex 0)).trans (Nat.zero_add _)
    · exact (congrArg (· * 3 + k.val) (ex 1)).trans (Nat.zero_add _)

/-! ## The results -/

/-- The first result: the region's array with its channels moved last, of the inputs `x` and `q` as the program is given
    them (`x` with channels first, `q` by groups of five slots). -/
def resultVal (x : Vec F S28x256x48x176 .f32) (q : Vec F S8x5x3 .f32) : Vec F S8x5x48x176x259 .f32 :=
  transpose S8x5x48x176x259 [0, 1, 3, 4, 2]
    (regionVal (transpose S28x48x176x256 [0, 2, 3, 1] x transposes_S28x256x48x176_S28x48x176x256_0_2_3_1)
      (shapeCast S40x3 q shapeCasts_S8x5x3_S40x3))
    transposes_S8x5x259x48x176_S8x5x48x176x259_0_1_3_4_2

/-- The cameras' array when the region starts. -/
theorem V₀_cam (c : Dev nD) : V₀ m c (Proc.devRef .tc main_call0_v0)
    = transpose S28x48x176x256 [0, 2, 3, 1] (m ((c : Thread nD τ).loc main_arg0)) transposes_S28x256x48x176_S28x48x176x256_0_2_3_1 := by
  unfold V₀ hostOps0
  simp only [List.flatten_cons, List.flatten_nil, List.append_nil]
  after_results
  rfl

/-- The entries' array when the region starts. -/
theorem V₀_ent (c : Dev nD) : V₀ m c (Proc.devRef .tc main_call0_v1)
    = shapeCast S40x3 (m ((c : Thread nD τ).loc main_arg1)) shapeCasts_S8x5x3_S40x3 := by
  unfold V₀ hostOps0
  simp only [List.flatten_cons, List.flatten_nil, List.append_nil]
  after_results
  rfl

/-- The contents of the buffers when the region ends. -/
def V₁ (c : Dev nD) : Valuation τ sig (Elt F) :=
  Pipeline.withArrays (Pipeline.pin (pcfgs (F := F)) adm 0).spec c (V₀ m c) fun w => (dats m 0 c).arrAt w (Pipeline.pin (pcfgs (F := F)) adm 0).N

/-- The output's array when the region ends. -/
theorem V₁_out (c : Dev nD) : V₁ m c (Proc.devRef .tc main_call0_v2)
    = regionVal (V₀ m c (Proc.devRef .tc main_call0_v0)) (V₀ m c (Proc.devRef .tc main_call0_v1)) :=
  (Pipeline.withArrays_arr spec0 winFacts0.arr_inj c (V₀ m c) _ 2).trans (arr_eq m c)

/-- The region leaves every buffer that is none of its arrays. -/
theorem V₁_rest (c : Dev nD) (b : Ref sig .tc) (hb : ∀ w, Pipeline.arrRef spec0 w ≠ b) :
    V₁ m c (Proc.devRef .tc b) = V₀ m c (Proc.devRef .tc b) :=
  Pipeline.withArrays_of_ne spec0 c (V₀ m c) _ b hb

/-- The first result after the last host operation. -/
theorem tail_result (c : Dev nD) : Pipeline.afterTail pcfgs adm (dats m) 0 (V₀ m) [hostOps1] c main_v0_0
    = resultVal (m ((c : Thread nD τ).loc main_arg0)) (m ((c : Thread nD τ).loc main_arg1)) := by
  show StableHlo.after [hostOps1].flatten (V₁ m c) (Proc.devRef .tc main_v0_0) = _
  unfold hostOps1
  simp only [List.flatten_cons, List.flatten_nil, List.append_nil]
  after_results
  rw [V₁_out, V₀_cam, V₀_ent]
  rfl

/-- The second result after the last host operation. -/
theorem tail_mask (c : Dev nD) : Pipeline.afterTail pcfgs adm (dats m) 0 (V₀ m) [hostOps1] c main_v0_1
    = fun i => lit2 (S8x5.rowMajor i) := by
  show StableHlo.after [hostOps1].flatten (V₁ m c) (Proc.devRef .tc main_v0_1) = _
  unfold hostOps1
  simp only [List.flatten_cons, List.flatten_nil, List.append_nil]
  after_results
  rw [V₁_rest m c _ (by decide)]
  unfold V₀ hostOps0
  simp only [List.flatten_cons, List.flatten_nil, List.append_nil]
  after_results
  rfl

/-- The first argument after the last host operation. -/
theorem tail_arg0 (c : Dev nD) : Pipeline.afterTail pcfgs adm (dats m) 0 (V₀ m) [hostOps1] c main_arg0
    = m ((c : Thread nD τ).loc main_arg0) := by
  show StableHlo.after [hostOps1].flatten (V₁ m c) (Proc.devRef .tc main_arg0) = _
  unfold hostOps1
  simp only [List.flatten_cons, List.flatten_nil, List.append_nil]
  after_results
  rw [V₁_rest m c _ (by decide)]
  unfold V₀ hostOps0
  simp only [List.flatten_cons, List.flatten_nil, List.append_nil]
  after_results
/-- The second argument after the last host operation. -/
theorem tail_arg1 (c : Dev nD) : Pipeline.afterTail pcfgs adm (dats m) 0 (V₀ m) [hostOps1] c main_arg1
    = m ((c : Thread nD τ).loc main_arg1) := by
  show StableHlo.after [hostOps1].flatten (V₁ m c) (Proc.devRef .tc main_arg1) = _
  unfold hostOps1
  simp only [List.flatten_cons, List.flatten_nil, List.append_nil]
  after_results
  rw [V₁_rest m c _ (by decide)]
  unfold V₀ hostOps0
  simp only [List.flatten_cons, List.flatten_nil, List.append_nil]
  after_results
/-- The program's run: both results in closed form, its arguments unchanged and every semaphore at zero. -/
theorem run_values : θ_run defs (onTc (τ := τ) (main (F := F))) ⟨m, fun _ => 0, ρ⟩ (fun r => (∀ c : Dev nD,
      r.2.mem ((c.tc : Thread nD τ).loc main_v0_0) = resultVal (m ((c : Thread nD τ).loc main_arg0)) (m ((c : Thread nD τ).loc main_arg1))
      ∧ r.2.mem ((c.tc : Thread nD τ).loc main_v0_1) = (fun i => lit2 (S8x5.rowMajor i))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_main m ρ) fun r h => ⟨fun c => ?_, h.2⟩
  have hr (b) (hb) := (h.1 c).2 b hb
  exact ⟨(hr main_v0_0 (Pipeline.mem_restRefs_of _ (by decide) (show ∀ w : Fin 3, Pipeline.arrRef spec0 w ≠ _ from by decide))).trans (tail_result m c),
    (hr main_v0_1 (Pipeline.mem_restRefs_of _ (by decide) (show ∀ w : Fin 3, Pipeline.arrRef spec0 w ≠ _ from by decide))).trans (tail_mask m c),
    (hr main_arg0 (Pipeline.mem_restRefs_of _ (by decide) (show ∀ w : Fin 3, Pipeline.arrRef spec0 w ≠ _ from by decide))).trans (tail_arg0 m c),
    (hr main_arg1 (Pipeline.mem_restRefs_of _ (by decide) (show ∀ w : Fin 3, Pipeline.arrRef spec0 w ≠ _ from by decide))).trans (tail_arg1 m c)⟩

end Cert.KernelIdeal.Hand

end
-- ==== Proof.Reference.lean ====
module

public import proofs.«01_k».proof.Proof.Values
public import proofs.«01_k».proof.Proof.Gen.ReferenceIdeal
public import Idealize.ShloMosaic.Lib.Claim
public import Idealize.ShloMosaic.Lib.Quiescent
public import Idealize.ShloMosaic.Lib.StableHlo.ReadAt

/-!
# The reference's results

The reference slices each group's cameras, pads them with zeros to five, stacks the groups, appends the slots' entries as
three more channels and moves the channels last. `ref_run` says that this is `resultVal` of the arguments.
-/

@[expose] public section

noncomputable section

namespace Cert.ReferenceIdeal.Hand

open Cert.ReferenceIdeal
open Cert.KernelIdeal.Hand (valid cam slot regionVal resultVal)
open Idealize.ShloMosaic Idealize.ShloMosaic.TcCoe Idealize.ShloMosaic.Tactic
open Idealize.SL.Sem

/-! ## The kernel's formula at one index -/

/-- A slot's number divided by five is its group. -/
theorem slot_group (a : Fin 8) (b : Fin 5) : (slot a b).val / 5 = a.val := by
  show (5 * a.val + b.val) / 5 = a.val
  omega

/-- A slot's number modulo five is its position in the group. -/
theorem slot_position (a : Fin 8) (b : Fin 5) : (slot a b).val % 5 = b.val := by
  show (5 * a.val + b.val) % 5 = b.val
  omega

/-- On the first 256 channels the result is the slot's camera, or zero where the slot is empty. -/
theorem result_feature (x : Vec Ideal S28x256x48x176 .f32) (q : Vec Ideal S8x5x3 .f32) (j : S8x5x48x176x259.Idx)
    (h : (j 4).val < 256) :
    resultVal x q j = if valid (slot (j 0) (j 1)) then x (ix4 (cam (slot (j 0) (j 1))) ⟨(j 4).val, h⟩ (j 2) (j 3))
      else (0 : Ideal .f32) := by
  unfold resultVal regionVal
  pointwise
  rw [dif_pos h]

/-- On the last three channels the result is the slot's entries. -/
theorem result_entry (x : Vec Ideal S28x256x48x176 .f32) (q : Vec Ideal S8x5x3 .f32) (j : S8x5x48x176x259.Idx)
    (h : ¬ (j 4).val < 256) :
    resultVal x q j = q (ix3 (j 0) (j 1) ⟨(j 4).val - 256, by have : (j 4).val < 259 := (j 4).isLt; omega⟩) := by
  unfold resultVal regionVal
  pointwise
  rw [dif_neg h]
  congr 2
  · exact Fin.ext (slot_group _ _)
  · exact Fin.ext (slot_position _ _)

/-! ## The reference's run -/

variable (m : (ℓ : Loc nD τ sig) → Buf (Elt Ideal) ℓ) (g : Dev nD → PrngReg)

set_option maxRecDepth 16384
set_option maxHeartbeats 2000000

/-- The reference's run: its mask is the constant it prints and its arguments are unchanged. -/
theorem ref_rest : θ_run (defs (F := Ideal)) (onTc (τ := τ) (main (F := Ideal))) ⟨m, fun _ => 0, g⟩ (fun r => ∀ c : Dev nD,
      r.2.mem ((c.tc : Thread nD τ).loc main_c) = (fun i => lit0 (S8x5.rowMajor i))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals rfl

/-- The reference's run: its first result is the kernel's formula of its arguments. -/
theorem ref_result : θ_run (defs (F := Ideal)) (onTc (τ := τ) (main (F := Ideal))) ⟨m, fun _ => 0, g⟩ (fun r => ∀ c : Dev nD,
      r.2.mem ((c.tc : Thread nD τ).loc main_v32)
        = resultVal (m ((c.tc : Thread nD τ).loc main_arg0)) (m ((c.tc : Thread nD τ).loc main_arg1))) := by
  refine θ_run_mono (StableHlo.run_hlo _ _ (by hlo_seq) (by decide) (by decide) (by simp)
      (by intro _ h; (repeat (cases h with | head => rfl | tail _ h => ?_)); exact nomatch h) _ _) fun r h c => ?_
  rw [h c]
  funext j
  after_reads_at
  split
  case isFalse hj =>
    after_reads_at
    exact (result_entry _ _ j hj).symm
  case isTrue hj =>
    rw [result_feature _ _ j hj]
    generalize (⟨(j 4).val, hj⟩ : Fin 256) = ch
    generalize hA : (j 0 : Fin 8) = a
    generalize hB : (j 1 : Fin 5) = b
    clear hA hB h
    after_reads_at
    change Fin 5 at b
    fin_cases a
    all_goals simp
    all_goals after_reads_at
    all_goals fin_cases b
    all_goals simp
    all_goals try after_reads_at
    all_goals first
      | exact (if_pos (by decide)).symm
      | exact (if_neg (by decide)).symm

/-- The two masks are the same 40 words. -/
theorem mask_eq : ∀ k : Fin 40, KernelIdeal.lit2 k = lit0 k := by decide

/-- The reference's run: both results, its arguments unchanged and every semaphore at zero. -/
theorem ref_run : θ_run (defs (F := Ideal)) (onTc (τ := τ) (main (F := Ideal))) ⟨m, fun _ => 0, g⟩ (fun r => (∀ c : Dev nD,
      r.2.mem ((c.tc : Thread nD τ).loc main_v32)
        = resultVal (m ((c.tc : Thread nD τ).loc main_arg0)) (m ((c.tc : Thread nD τ).loc main_arg1))
      ∧ r.2.mem ((c.tc : Thread nD τ).loc main_c) = (fun i => KernelIdeal.lit2 (S8x5.rowMajor i))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (θ_run_and (ref_result m g) (ref_rest m g)) fun r h => ⟨fun c =>
    ⟨h.1 c, (h.2 c).1.trans (funext fun i => (mask_eq (S8x5.rowMajor i)).symm), (h.2 c).2⟩, sem_eq_zero_of_no_sems (by decide) r.2⟩

end Cert.ReferenceIdeal.Hand

end
-- ==== Proof.lean ====
/- The certificate's proof: the kernel computes the reference's function over the extended reals, and all three programs
   terminate without fault, leave their arguments unchanged and every semaphore at zero.
   The kernel's run is Proof/Values.lean's `run_values`, the reference's Proof/Reference.lean's `ref_run`; both name their
   first result as `resultVal` of the arguments. -/
module

public import proofs.«01_k».proof.Defs
public import proofs.«01_k».proof.Proof.Carry
public import proofs.«01_k».proof.Proof.Values
public import proofs.«01_k».proof.Proof.Reference

@[expose] public section

noncomputable section

namespace Cert.Proof

open Idealize.ShloMosaic Idealize.SL.Sem

/-- The kernel's frame, from the run of its idealised text at the float words. -/
theorem frame_kernel : Cert.quiescent_Kernel (hKernel := Cert.Kernel.Gen.facts) := fun m g _ =>
  θ_run_mono (Carry.run_carry m g _ (KernelIdeal.Hand.run_values (F := Bits) m g)) fun _ h => ⟨fun c => (h.1 c).2.2, h.2⟩

/-- The idealised kernel's frame. -/
theorem frame_ideal : Cert.quiescent_KernelIdeal (hKernelIdeal := Cert.KernelIdeal.Gen.facts) := fun m g _ =>
  θ_run_mono (KernelIdeal.Hand.run_values (F := Ideal) m g) fun _ h => ⟨fun c => (h.1 c).2.2, h.2⟩

/-- The reference's frame. -/
theorem frame_reference : Cert.quiescent_ReferenceIdeal (hReferenceIdeal := Cert.ReferenceIdeal.Gen.facts) := fun m g _ =>
  θ_run_mono (ReferenceIdeal.Hand.ref_run m g) fun _ h => ⟨fun c => (h.1 c).2.2, h.2⟩

/-- Kernel and reference have the same two results: `resultVal` of the arguments, and the constant mask. -/
theorem values : Cert.algebraic_KernelIdeal_ReferenceIdeal (hKernelIdeal := Cert.KernelIdeal.Gen.facts)
    (hReferenceIdeal := Cert.ReferenceIdeal.Gen.facts) := fun m g m' g' _ hagree =>
  ⟨fun c => KernelIdeal.Hand.resultVal (m ((c.tc : Thread KernelIdeal.nD KernelIdeal.τ).loc KernelIdeal.main_arg0))
      (m ((c.tc : Thread KernelIdeal.nD KernelIdeal.τ).loc KernelIdeal.main_arg1)),
    fun _ i => KernelIdeal.lit2 (KernelIdeal.S8x5.rowMajor i),
    θ_run_mono (KernelIdeal.Hand.run_values (F := Ideal) m g) fun _ h => h.1,
    θ_run_mono (ReferenceIdeal.Hand.ref_run m' g') fun _ h c =>
      ⟨(h.1 c).1.trans (by rw [(hagree c).1, (hagree c).2]), (h.1 c).2⟩⟩

theorem claim : Cert.Claim := ⟨Cert.Kernel.Gen.facts, Cert.KernelIdeal.Gen.facts, Cert.ReferenceIdeal.Gen.facts,
  frame_kernel, frame_ideal, frame_reference, trivial, values⟩

end Cert.Proof

end
